-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x3B03126F#32 ((1 / 500 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S50000x256 : Shape := ⟨2, ![50000, 256]⟩
abbrev S100 : Shape := ⟨1, ![100]⟩
abbrev S256 : Shape := ⟨1, ![256]⟩
abbrev S_ : Shape := ⟨0, ![]⟩

class Facts : Prop where
  bcast_S_S100 : S_.BroadcastsInDim S100 (![] : Fin 0 → Fin S100.rank)
  reducesTo_S100_S_d0 : S100.ReducesTo [0] S_
  h_S_ : 0 < S_.numel
  bcast_S_S50000x256 : S_.BroadcastsInDim S50000x256 (![] : Fin 0 → Fin S50000x256.rank)
  reducesTo_S50000x256_S_d0_1 : S50000x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v2 : IVec S_ 1) (main_v11 : IVec S_ 1) (main_v15 : IVec S_ 1) : IVec S_ 1 :=
  let main_v16 : IVec S_ 1 := andi main_v11 main_v15
  let main_v17 : IVec S_ 1 := andi main_v2 main_v16
  main_v17

def fn {F : FTy → Type} [FloatOps F] (main_arg0 : FVec F S50000x256 .f32) (main_arg1 : IVec S100 32) (main_arg2 : FVec F S256 .f32) (main_arg3 : FVec F S256 .f32) (main_arg4 : FVec F S256 .f32) : IVec S_ 1 :=
  let main_c : IVec S_ 32 := constantI S_ 32 500#32
  let main_v0 : IVec S100 32 := broadcastInDim S100 ![] bcast_S_S100 main_c
  let main_v1 : IVec S100 1 := cmpi .eq main_arg1 main_v0
  let main_c_0 : IVec S_ 1 := constantI S_ 1 1#1
  let main_v2 : IVec S_ 1 := (fun x v => Host.reduce IntOp.andi x v reducesTo_S100_S_d0 h_S_) main_v1 main_c_0
  let main_v3 : FVec F S50000x256 .f32 := Host.absf main_arg0
  let main_cst : FVec F S_ .f32 := constant S_ .f32 0x7F800000#32
  let main_v4 : FVec F S50000x256 .f32 := broadcastInDim S50000x256 ![] bcast_S_S50000x256 main_cst
  let main_v5 : IVec S50000x256 1 := cmpf .olt main_v3 main_v4
  let main_c_1 : IVec S_ 1 := constantI S_ 1 1#1
  let main_v6 : IVec S_ 1 := (fun x v => Host.reduce IntOp.andi x v reducesTo_S50000x256_S_d0_1 h_S_) main_v5 main_c_1
  let main_v7 : FVec F S256 .f32 := Host.absf main_arg2
  let main_cst_2 : FVec F S_ .f32 := constant S_ .f32 0x7F800000#32
  let main_v8 : FVec F S256 .f32 := broadcastInDim S256 ![] bcast_S_S256 main_cst_2
  let main_v9 : IVec S256 1 := cmpf .olt main_v7 main_v8
  let main_c_3 : IVec S_ 1 := constantI S_ 1 1#1
  let main_v10 : IVec S_ 1 := (fun x v => Host.reduce IntOp.andi x v reducesTo_S256_S_d0 h_S_) main_v9 main_c_3
  let main_v11 : IVec S_ 1 := andi main_v6 main_v10
  let main_v12 : FVec F S256 .f32 := Host.absf main_arg4
  let main_cst_4 : FVec F S_ .f32 := constant S_ .f32 0x7F800000#32
  let main_v13 : FVec F S256 .f32 := broadcastInDim S256 ![] bcast_S_S256 main_cst_4
  let main_v14 : IVec S256 1 := cmpf .olt main_v12 main_v13
  let main_c_5 : IVec S_ 1 := constantI S_ 1 1#1
  let main_v15 : IVec S_ 1 := (fun x v => Host.reduce IntOp.andi x v reducesTo_S256_S_d0 h_S_) main_v14 main_c_5
  fn_part1 (F := F) main_v2 main_v11 main_v15
-- ==== Kernel.lean ====
abbrev S50000x256 : Shape := ⟨2, ![50000, 256]⟩
abbrev S100 : Shape := ⟨1, ![100]⟩
abbrev S256 : Shape := ⟨1, ![256]⟩
abbrev S100x500x256 : Shape := ⟨3, ![100, 500, 256]⟩
abbrev S1x256 : Shape := ⟨2, ![1, 256]⟩
abbrev S1x500x256 : Shape := ⟨3, ![1, 500, 256]⟩
abbrev S500x256 : Shape := ⟨2, ![500, 256]⟩

abbrev nBuf : Space → Nat
  | .hbm => 11
  | .vmem => 7
  | .smem => 0
  | _ => 0

abbrev bufTy : (tb : Table) → Fin (tcTables nBuf tb) → BufTy
  | .hbm, ⟨0, _⟩ => ⟨S50000x256, .f32⟩
  | .hbm, ⟨1, _⟩ => ⟨S100, .i32⟩
  | .hbm, ⟨2, _⟩ => ⟨S256, .f32⟩
  | .hbm, ⟨3, _⟩ => ⟨S256, .f32⟩
  | .hbm, ⟨4, _⟩ => ⟨S256, .f32⟩
  | .hbm, ⟨5, _⟩ => ⟨S100x500x256, .f32⟩
  | .hbm, ⟨6, _⟩ => ⟨S1x256, .f32⟩
  | .hbm, ⟨7, _⟩ => ⟨S1x256, .f32⟩
  | .hbm, ⟨8, _⟩ => ⟨S1x256, .f32⟩
  | .hbm, ⟨9, _⟩ => ⟨S100x500x256, .f32⟩
  | .hbm, ⟨10, _⟩ => ⟨S50000x256, .f32⟩
  | .local _ .vmem, ⟨0, _⟩ => ⟨S1x500x256, .f32⟩
  | .local _ .vmem, ⟨1, _⟩ => ⟨S1x500x256, .f32⟩
  | .local _ .vmem, ⟨2, _⟩ => ⟨S1x256, .f32⟩
  | .local _ .vmem, ⟨3, _⟩ => ⟨S1x256, .f32⟩
  | .local _ .vmem, ⟨4, _⟩ => ⟨S1x256, .f32⟩
  | .local _ .vmem, ⟨5, _⟩ => ⟨S1x500x256, .f32⟩
  | .local _ .vmem, ⟨6, _⟩ => ⟨S1x500x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![100], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x500x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x500x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
variable {F : FTy → Type} [FloatOps F] [Named F]
def κ : String → Option EReal := fun
  | "inv_n" => some ((1 / 500 : ℝ) : EReal)
  | _ => none
-- ==== ReferenceIdeal.lean ====
abbrev S50000x256 : Shape := ⟨2, ![50000, 256]⟩
abbrev S100 : Shape := ⟨1, ![100]⟩
abbrev S256 : Shape := ⟨1, ![256]⟩
abbrev S1 : Shape := ⟨1, ![1]⟩
abbrev S99 : Shape := ⟨1, ![99]⟩
abbrev S_ : Shape := ⟨0, ![]⟩
abbrev S50000 : Shape := ⟨1, ![50000]⟩
abbrev S100x1 : Shape := ⟨2, ![100, 1]⟩
abbrev S50000x1 : Shape := ⟨2, ![50000, 1]⟩
abbrev S1x1 : Shape := ⟨2, ![1, 1]⟩
abbrev S100x256 : Shape := ⟨2, ![100, 256]⟩
abbrev S1x256 : Shape := ⟨2, ![1, 256]⟩

abbrev nBuf : Space → Nat
  | .hbm => 134
  | .vmem => 0
  | .smem => 0
  | _ => 0

abbrev hbmTy0_0 (i : Nat) : BufTy := match i % 128 with
  | 0 => ⟨S50000x256, .f32⟩
  | 1 => ⟨S100, .i32⟩
  | 2 => ⟨S256, .f32⟩
  | 3 => ⟨S256, .f32⟩
  | 4 => ⟨S256, .f32⟩
  | 5 => ⟨S100, .i32⟩
  | 6 => ⟨S1, .i32⟩
  | 7 => ⟨S99, .i32⟩
  | 8 => ⟨S100, .i32⟩
  | 9 => ⟨S_, .i32⟩
  | 10 => ⟨S1, .i32⟩
  | 11 => ⟨S_, .i32⟩
  | 12 => ⟨S100, .i32⟩
  | 13 => ⟨S_, .i32⟩
  | 14 => ⟨S_, .i32⟩
  | 15 => ⟨S100, .i32⟩
  | 16 => ⟨S_, .i32⟩
  | 17 => ⟨S50000, .i32⟩
  | 18 => ⟨S_, .i32⟩
  | 19 => ⟨S100, .i32⟩
  | 20 => ⟨S100, .i1⟩
  | 21 => ⟨S_, .i32⟩
  | 22 => ⟨S100, .i32⟩
  | 23 => ⟨S100, .i32⟩
  | 24 => ⟨S100, .i32⟩
  | 25 => ⟨S100x1, .i32⟩
  | 26 => ⟨S_, .i32⟩
  | 27 => ⟨S100, .i32⟩
  | 28 => ⟨S50000, .i32⟩
  | 29 => ⟨S_, .i32⟩
  | 30 => ⟨S_, .i32⟩
  | 31 => ⟨S50000, .i32⟩
  | 32 => ⟨S_, .i32⟩
  | 33 => ⟨S50000, .i32⟩
  | 34 => ⟨S50000, .i32⟩
  | 35 => ⟨S_, .i32⟩
  | 36 => ⟨S50000, .i32⟩
  | 37 => ⟨S50000, .i1⟩
  | 38 => ⟨S_, .i32⟩
  | 39 => ⟨S50000, .i32⟩
  | 40 => ⟨S50000, .i32⟩
  | 41 => ⟨S50000, .i32⟩
  | 42 => ⟨S50000x1, .i32⟩
  | 43 => ⟨S1, .i32⟩
  | 44 => ⟨S_, .i32⟩
  | 45 => ⟨S50000x1, .i32⟩
  | 46 => ⟨S50000x1, .i1⟩
  | 47 => ⟨S1x1, .i32⟩
  | 48 => ⟨S50000x1, .i32⟩
  | 49 => ⟨S50000x1, .i1⟩
  | 50 => ⟨S50000x1, .i1⟩
  | 51 => ⟨S_, .i1⟩
  | 52 => ⟨S50000, .i1⟩
  | 53 => ⟨S50000, .i32⟩
  | 54 => ⟨S_, .i32⟩
  | 55 => ⟨S50000, .i32⟩
  | 56 => ⟨S50000, .i32⟩
  | 57 => ⟨S100, .f32⟩
  | 58 => ⟨S_, .f32⟩
  | 59 => ⟨S100x256, .f32⟩
  | 60 => ⟨S50000x1, .i32⟩
  | 61 => ⟨S100x256, .f32⟩
  | 62 => ⟨S100x1, .f32⟩
  | 63 => ⟨S100x256, .f32⟩
  | 64 => ⟨S100x256, .f32⟩
  | 65 => ⟨S_, .i32⟩
  | 66 => ⟨S50000, .i32⟩
  | 67 => ⟨S50000, .i1⟩
  | 68 => ⟨S_, .i32⟩
  | 69 => ⟨S50000, .i32⟩
  | 70 => ⟨S50000, .i32⟩
  | 71 => ⟨S50000, .i32⟩
  | 72 => ⟨S50000x1, .i32⟩
  | 73 => ⟨S1, .i32⟩
  | 74 => ⟨S_, .i32⟩
  | 75 => ⟨S50000x1, .i32⟩
  | 76 => ⟨S50000x1, .i1⟩
  | 77 => ⟨S1x1, .i32⟩
  | 78 => ⟨S50000x1, .i32⟩
  | 79 => ⟨S50000x1, .i1⟩
  | 80 => ⟨S50000x1, .i1⟩
  | 81 => ⟨S_, .i1⟩
  | 82 => ⟨S50000, .i1⟩
  | 83 => ⟨S50000x256, .f32⟩
  | 84 => ⟨S50000x256, .i1⟩
  | 85 => ⟨S_, .f32⟩
  | 86 => ⟨S50000x256, .f32⟩
  | 87 => ⟨S50000x256, .f32⟩
  | 88 => ⟨S1x256, .f32⟩
  | 89 => ⟨S50000x256, .f32⟩
  | 90 => ⟨S50000x256, .f32⟩
  | 91 => ⟨S50000x256, .f32⟩
  | 92 => ⟨S50000x256, .f32⟩
  | 93 => ⟨S_, .f32⟩
  | 94 => ⟨S100x256, .f32⟩
  | 95 => ⟨S50000x1, .i32⟩
  | 96 => ⟨S100x256, .f32⟩
  | 97 => ⟨S100x1, .f32⟩
  | 98 => ⟨S100x256, .f32⟩
  | 99 => ⟨S100x256, .f32⟩
  | 100 => ⟨S_, .f32⟩
  | 101 => ⟨S100x256, .f32⟩
  | 102 => ⟨S100x256, .f32⟩
  | 103 => ⟨S100x256, .f32⟩
  | 104 => ⟨S_, .i32⟩
  | 105 => ⟨S50000, .i32⟩
  | 106 => ⟨S50000, .i1⟩
  | 107 => ⟨S_, .i32⟩
  | 108 => ⟨S50000, .i32⟩
  | 109 => ⟨S50000, .i32⟩
  | 110 => ⟨S50000, .i32⟩
  | 111 => ⟨S50000x1, .i32⟩
  | 112 => ⟨S1, .i32⟩
  | 113 => ⟨S_, .i32⟩
  | 114 => ⟨S50000x1, .i32⟩
  | 115 => ⟨S50000x1, .i1⟩
  | 116 => ⟨S1x1, .i32⟩
  | 117 => ⟨S50000x1, .i32⟩
  | 118 => ⟨S50000x1, .i1⟩
  | 119 => ⟨S50000x1, .i1⟩
  | 120 => ⟨S_, .i1⟩
  | 121 => ⟨S50000, .i1⟩
  | 122 => ⟨S50000x256, .f32⟩
  | 123 => ⟨S50000x256, .i1⟩
  | 124 => ⟨S_, .f32⟩
  | 125 => ⟨S50000x256, .f32⟩
  | 126 => ⟨S50000x256, .f32⟩
  | 127 => ⟨S1x256, .f32⟩
  | _ => ⟨S50000x256, .f32⟩

abbrev hbmTy0_1 (i : Nat) : BufTy := match i % 128 with
  | 0 => ⟨S50000x256, .f32⟩
  | 1 => ⟨S50000x256, .f32⟩
  | 2 => ⟨S50000x256, .f32⟩
  | 3 => ⟨S1x256, .f32⟩
  | 4 => ⟨S50000x256, .f32⟩
  | 5 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_call1_call0_c : Ref sig .tc := ⟨.hbm, 13, rfl⟩
abbrev main_call1_call0_v0 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_call2_call0_c : Ref sig .tc := ⟨.hbm, 29, rfl⟩
abbrev main_call2_call0_v0 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_call3_c : Ref sig .tc := ⟨.hbm, 35, rfl⟩
abbrev main_call3_v0 : Ref sig .tc := ⟨.hbm, 36, rfl⟩
abbrev main_call3_v1 : Ref sig .tc := ⟨.hbm, 37, rfl⟩
abbrev main_call3_c_0 : Ref sig .tc := ⟨.hbm, 38, rfl⟩
abbrev main_call3_v2 : Ref sig .tc := ⟨.hbm, 39, rfl⟩
abbrev main_call3_v3 : Ref sig .tc := ⟨.hbm, 40, rfl⟩
abbrev main_call3_v4 : Ref sig .tc := ⟨.hbm, 41, rfl⟩
abbrev main_call3_v5 : Ref sig .tc := ⟨.hbm, 42, rfl⟩
abbrev main_call3_c_1 : Ref sig .tc := ⟨.hbm, 43, rfl⟩
abbrev main_call3_c_2 : Ref sig .tc := ⟨.hbm, 44, rfl⟩
abbrev main_call3_v6 : Ref sig .tc := ⟨.hbm, 45, rfl⟩
abbrev main_call3_v7 : Ref sig .tc := ⟨.hbm, 46, rfl⟩
abbrev main_call3_v8 : Ref sig .tc := ⟨.hbm, 47, rfl⟩
abbrev main_call3_v9 : Ref sig .tc := ⟨.hbm, 48, rfl⟩
abbrev main_call3_v10 : Ref sig .tc := ⟨.hbm, 49, rfl⟩
abbrev main_call3_v11 : Ref sig .tc := ⟨.hbm, 50, rfl⟩
abbrev main_call3_c_3 : Ref sig .tc := ⟨.hbm, 51, rfl⟩
abbrev main_call3_v12 : Ref sig .tc := ⟨.hbm, 52, rfl⟩
abbrev main_call3_v13 : Ref sig .tc := ⟨.hbm, 53, rfl⟩
abbrev main_call3_c_4 : Ref sig .tc := ⟨.hbm, 54, rfl⟩
abbrev main_call3_v14 : Ref sig .tc := ⟨.hbm, 55, rfl⟩
abbrev main_v17 : Ref sig .tc := ⟨.hbm, 56, rfl⟩
abbrev main_v18 : Ref sig .tc := ⟨.hbm, 57, rfl⟩
abbrev main_cst : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_call4_c : Ref sig .tc := ⟨.hbm, 65, rfl⟩
abbrev main_call4_v0 : Ref sig .tc := ⟨.hbm, 66, rfl⟩
abbrev main_call4_v1 : Ref sig .tc := ⟨.hbm, 67, rfl⟩
abbrev main_call4_c_0 : Ref sig .tc := ⟨.hbm, 68, rfl⟩
abbrev main_call4_v2 : Ref sig .tc := ⟨.hbm, 69, rfl⟩
abbrev main_call4_v3 : Ref sig .tc := ⟨.hbm, 70, rfl⟩
abbrev main_call4_v4 : Ref sig .tc := ⟨.hbm, 71, rfl⟩
abbrev main_call4_v5 : Ref sig .tc := ⟨.hbm, 72, rfl⟩
abbrev main_call4_c_1 : Ref sig .tc := ⟨.hbm, 73, rfl⟩
abbrev main_call4_c_2 : Ref sig .tc := ⟨.hbm, 74, rfl⟩
abbrev main_call4_v6 : Ref sig .tc := ⟨.hbm, 75, rfl⟩
abbrev main_call4_v7 : Ref sig .tc := ⟨.hbm, 76, rfl⟩
abbrev main_call4_v8 : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_3 : Ref sig .tc := ⟨.hbm, 81, rfl⟩
abbrev main_call4_v12 : Ref sig .tc := ⟨.hbm, 82, rfl⟩
abbrev main_call4_v13 : Ref sig .tc := ⟨.hbm, 83, rfl⟩
abbrev main_call4_v14 : Ref sig .tc := ⟨.hbm, 84, rfl⟩
abbrev main_call4_cst : Ref sig .tc := ⟨.hbm, 85, rfl⟩
abbrev main_call4_v15 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_cst_6 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_cst_7 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_c_1 : Ref sig .tc := ⟨.hbm, 112, rfl⟩
abbrev main_call5_c_2 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_3 : Ref sig .tc := ⟨.hbm, 120, rfl⟩
abbrev main_call5_v12 : Ref sig .tc := ⟨.hbm, 121, rfl⟩
abbrev main_call5_v13 : Ref sig .tc := ⟨.hbm, 122, rfl⟩
abbrev main_call5_v14 : Ref sig .tc := ⟨.hbm, 123, rfl⟩
abbrev main_call5_cst : Ref sig .tc := ⟨.hbm, 124, rfl⟩
abbrev main_call5_v15 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩

abbrev nD : Nat := 1
abbrev τ : Topo := Topo.v7x

variable {F : FTy → Type} [FloatOps F]
-- ==== Proof.Precondition.lean ====
/-
  What the precondition says of the arguments: every count is 500, and the features, the weight and the mean scale are
  real numbers.
-/
module

public import proofs.«01_k».proof.Pre_pre
public import Idealize.ShloMosaic.Lib.ReduceAll
public import Idealize.ShloMosaic.PureOps.Ideal
public import Idealize.ShloMosaic.Lib.StableHlo.Predicate

@[expose] public section

noncomputable section

namespace Cert.GraphNorm

open Idealize.ShloMosaic
open Cert.Pre_pre

/-- The shape relations the precondition's operations take hold. -/
theorem pre_facts : Cert.Pre_pre.Facts where
  bcast_S_S100 := by decide
  reducesTo_S100_S_d0 := by decide
  h_S_ := by decide
  bcast_S_S50000x256 := by decide
  reducesTo_S50000x256_S_d0_1 := by decide
  bcast_S_S256 := by decide
  reducesTo_S256_S_d0 := by decide

/-- A conjunction of two bits is one only when both are. -/
theorem both_one : ∀ a b : BitVec 1, IntOp.andi a b = 1#1 → a = 1#1 ∧ b = 1#1 := by decide

/-- The word of the infinite constant is the top of the extended reals. -/
theorem inf_word : (Ideal.ofBits .f32 0x7F800000#32 : EReal) = ⊤ := by
  simp [Ideal.ofBits, Ideal.ieee]

/-- A value whose absolute value lies below infinity is a real number. -/
theorem real_of_bounded (x : EReal)
    (h : FloatOps.cmpf (F := Ideal) (φ := .f32) .olt (FloatOps.hostAbsf (F := Ideal) (φ := .f32) x) (FloatOps.ofBits .f32 0x7F800000#32) = 1#1) :
    ∃ r : ℝ, x = r := by
  have h' : max x (-x) < (⊤ : EReal) := by
    have h2 : BitVec.ofBool (decide (max x (-x) < (Ideal.ofBits .f32 0x7F800000#32 : EReal))) = 1#1 := h
    rw [inf_word] at h2
    by_contra hn
    rw [decide_eq_false hn] at h2
    exact absurd h2 (by decide)
  refine ⟨x.toReal, (EReal.coe_toReal (fun e => ?_) (fun e => ?_)).symm⟩
  · subst e; simp at h'
  · subst e; simp at h'

/-- The precondition, read at each index. -/
theorem pre_read [Cert.Pre_pre.Facts] (a0 : FVec Ideal S50000x256 .f32) (a1 : IVec S100 32) (a2 a3 a4 : FVec Ideal S256 .f32)
    (h : Cert.Pre_pre.fn (F := Ideal) a0 a1 a2 a3 a4 = fun _ => 1#1) :
    (∀ i, a1 i = 500#32) ∧ (∀ i, ∃ r : ℝ, (a0 i : EReal) = r) ∧ (∀ i, ∃ r : ℝ, (a2 i : EReal) = r) ∧ ∀ i, ∃ r : ℝ, (a4 i : EReal) = r := by
  haveI : Subsingleton S_.Idx := ⟨fun a b => funext fun d => d.elim0⟩
  obtain ⟨h1, h⟩ := both_one _ _ (congrFun h fun d => d.elim0)
  obtain ⟨h, h4⟩ := both_one _ _ h
  obtain ⟨h0, h2⟩ := both_one _ _ h
  exact ⟨fun i => StableHlo.Predicate.cmpi_eq_iff.1 (Host.reduce_andi_all _ _ _ _ _ h1 i),
    fun i => real_of_bounded _ (Host.reduce_andi_all _ _ _ _ _ h0 i), fun i => real_of_bounded _ (Host.reduce_andi_all _ _ _ _ _ h2 i),
    fun i => real_of_bounded _ (Host.reduce_andi_all _ _ _ _ _ h4 i)⟩

end Cert.GraphNorm
-- ==== Proof.Scatters.lean ====
/-
  Where the updates of the reference's three scatters land, and what the scatter of ones holds. Everything here is
  about operations at arbitrary extents, apart from the dimension numbers; nothing names a program.
-/
module

public import Idealize.ShloMosaic.Lib.Routing.OpsSet

@[expose] public section

namespace Cert.GraphNorm

open Idealize.ShloMosaic Idealize.ShloMosaic.ValueIdx Idealize.ShloMosaic.Routing

/-- The one update of a scatter of a single scalar into a vector lands at entry `x` exactly when its index word, read
    signed, is `x`. -/
theorem lands_scalar {N : Nat} (d : ScatterDims (shape1 N) (shape1 1) shape0) (hiw : d.insertedWindowDims = [0])
    (hsd : d.scatterDimsToOperandDims = [0]) (hivd : d.indexVectorDim = 0) (idx : IVec (shape1 1) 32) (k : shape0.Idx) (x : Fin N) :
    d.resultIdx? k idx = some (ix1 x) ↔ (idx (ix1 (0 : Fin 1))).toInt = (x.val : Int) := by
  have hm : (0 : Fin 1) ∈ d.scatterDimsToOperandDims := by rw [hsd]; exact List.mem_singleton.2 rfl
  have hwin : d.window k 0 = 0 := by
    unfold ScatterDims.window
    rw [dif_neg fun h => (of_decide_eq_true (List.mem_filter.1 h).2) (by rw [hiw]; exact List.mem_singleton.2 rfl)]
  have hstart : d.start k idx 0 = (idx (ix1 (0 : Fin 1))).toInt := by
    unfold ScatterDims.start
    rw [dif_pos hm]
    refine congrArg (fun i => (idx i).toInt) ?_
    rw [eq_ix1 (d.siIdx k _)]
    exact congrArg ix1 (Subsingleton.elim (α := Fin 1) _ _)
  rw [resultIdx?_ix1, hstart, hwin]
  simp

/-- Update `i` of a scatter of `M` scalars into a vector of `N`, one index word each, lands at entry `x` exactly when its
    index word, read signed, is `x`. -/
theorem lands_vector {N M : Nat} (d : ScatterDims (shape1 N) (shape2 M 1) (shape1 M)) (hiw : d.insertedWindowDims = [0])
    (hsd : d.scatterDimsToOperandDims = [0]) (hivd : d.indexVectorDim = 1) (idx : IVec (shape2 M 1) 32) (i : Fin M) (x : Fin N) :
    d.resultIdx? (ix1 i) idx = some (ix1 x) ↔ (idx (ix2 i (0 : Fin 1))).toInt = (x.val : Int) := by
  have hm : (0 : Fin 1) ∈ d.scatterDimsToOperandDims := by rw [hsd]; exact List.mem_singleton.2 rfl
  have hwin : d.window (ix1 i) 0 = 0 := by
    unfold ScatterDims.window
    rw [dif_neg fun h => (of_decide_eq_true (List.mem_filter.1 h).2) (by rw [hiw]; exact List.mem_singleton.2 rfl)]
  have hstart : d.start (ix1 i) idx 0 = (idx (ix2 i (0 : Fin 1))).toInt := by
    unfold ScatterDims.start
    rw [dif_pos hm]
    refine congrArg (fun i => (idx i).toInt) ?_
    funext b
    apply Fin.ext
    match b with
    | ⟨0, _⟩ =>
      unfold ScatterDims.siIdx
      rw [dif_neg (by rw [hivd]; exact Nat.zero_ne_one)]
      unfold ScatterDims.siCoord
      simp only [Fin.val_cast]
      exact congrArg (fun X : Fin 1 => (ix1 i X).val) (Subsingleton.elim (α := Fin 1) _ 0)
    | ⟨1, _⟩ =>
      exact congrArg Fin.val (Subsingleton.elim (α := Fin 1) _ 0)
  rw [resultIdx?_ix1, hstart, hwin]
  simp

/-- Update `(i, q)` of a scatter of `M` rows into a matrix, one row number each, lands at `(r, c)` exactly when its row
    number, read signed, is `r` and its column is `c`. -/
theorem lands_rows {R C M : Nat} (d : ScatterDims (shape2 R C) (shape2 M 1) (shape2 M C)) (huw : d.updateWindowDims = [1])
    (hiw : d.insertedWindowDims = [0]) (hsd : d.scatterDimsToOperandDims = [0]) (hivd : d.indexVectorDim = 1)
    (idx : IVec (shape2 M 1) 32) (i : Fin M) (q : Fin C) (r : Fin R) (c : Fin C) :
    d.resultIdx? (ix2 i q) idx = some (ix2 r c) ↔ (idx (ix2 i (0 : Fin 1))).toInt = (r.val : Int) ∧ q = c := by
  have hm : (0 : Fin 2) ∈ d.scatterDimsToOperandDims := by rw [hsd]; exact List.mem_singleton.2 rfl
  have hm1 : (1 : Fin 2) ∉ d.scatterDimsToOperandDims := one_not_mem _ hsd
  have hwin0 : d.window (ix2 i q) 0 = 0 := by
    unfold ScatterDims.window
    rw [dif_neg fun h => (of_decide_eq_true (List.mem_filter.1 h).2) (by rw [hiw]; exact List.mem_singleton.2 rfl)]
  have hwin1 : d.window (ix2 i q) 1 = q.val := by
    unfold ScatterDims.window
    have hk : (1 : Fin 2) ∈ d.sKept :=
      List.mem_filter.2 ⟨List.mem_finRange _, decide_eq_true (by rw [hiw]; exact one_not_mem _ rfl)⟩
    rw [dif_pos hk]
    have e : ∀ X : Fin 2, X = 1 → (ix2 i q X).val = q.val := fun X h => by subst h; rfl
    exact e _ (List.mem_singleton.1 (by rw [← huw]; exact List.getElem_mem _))
  have hstart0 : d.start (ix2 i q) idx 0 = (idx (ix2 i (0 : Fin 1))).toInt := by
    unfold ScatterDims.start
    rw [dif_pos hm]
    refine congrArg (fun i => (idx i).toInt) ?_
    funext b
    apply Fin.ext
    match b with
    | ⟨0, _⟩ =>
      unfold ScatterDims.siIdx
      rw [dif_neg (by rw [hivd]; exact Nat.zero_ne_one)]
      unfold ScatterDims.siCoord
      simp only [Fin.val_cast]
      have e : ∀ X : Fin 2, X ∈ d.uScatter → (ix2 i q X).val = i.val := fun X hX => by
        have hX' : X ∉ d.updateWindowDims := of_decide_eq_true (List.mem_filter.1 hX).2
        rw [huw] at hX'
        have h1 : X.val ≠ 1 := fun e => hX' (List.mem_singleton.2 (Fin.ext e))
        have h2 : X.val < 2 := X.isLt
        obtain rfl : X = 0 := Fin.ext (by show X.val = 0; omega)
        rfl
      exact e _ (List.getElem_mem _)
    | ⟨1, _⟩ =>
      exact congrArg Fin.val (Subsingleton.elim (α := Fin 1) _ 0)
  have hstart1 : d.start (ix2 i q) idx 1 = 0 := by
    unfold ScatterDims.start
    rw [dif_neg hm1]
  rw [resultIdx?_ix2, hstart0, hwin0, hstart1, hwin1]
  constructor
  · rintro ⟨h0, h1⟩
    exact ⟨by omega, Fin.ext (by omega)⟩
  · rintro ⟨h0, rfl⟩
    exact ⟨by omega, by omega⟩

/-- Adding the word 1 once for each hit of a list counts the hits. -/
theorem foldl_add_one {ι : Type} (l : List ι) (p : ι → Bool) (z : Nat) :
    l.foldl (fun a n => if p n = true then IntOp.addi a 1#32 else a) (BitVec.ofNat 32 z) = BitVec.ofNat 32 (z + l.countP p) := by
  induction l generalizing z with
  | nil => rfl
  | cons n l ih =>
    rw [List.foldl_cons]
    cases hp : p n with
    | true =>
      rw [if_pos rfl, List.countP_cons_of_pos hp, ← Nat.add_assoc, Nat.add_right_comm]
      rw [show IntOp.addi (BitVec.ofNat 32 z) 1#32 = BitVec.ofNat 32 (z + 1) from (BitVec.ofNat_add z 1).symm]
      exact ih (z + 1)
    | false =>
      rw [if_neg Bool.false_ne_true, List.countP_cons_of_neg (by rw [hp]; exact Bool.false_ne_true)]
      exact ih z

/-- A scatter that adds the word 1 into a vector of zeros, `M` index words below `2 ^ 31`, holds at entry `x` how many of
    the index words are `x`. -/
theorem scatter_ones {N M : Nat} (d : ScatterDims (shape1 N) (shape2 M 1) (shape1 M)) (hiw : d.insertedWindowDims = [0])
    (hsd : d.scatterDimsToOperandDims = [0]) (hivd : d.indexVectorDim = 1) (x0 : IVec (shape1 N) 32) (idx : IVec (shape2 M 1) 32)
    (upd : IVec (shape1 M) 32) (gi : Nat → Nat) (hx : ∀ j, x0 j = 0#32) (hupd : ∀ j, upd j = 1#32)
    (hg : ∀ i : Fin M, idx (ix2 i (0 : Fin 1)) = BitVec.ofNat 32 (gi i.val)) (hg31 : ∀ i : Fin M, gi i.val < 2 ^ 31) (x : Fin N) :
    Host.scatter d IntOp.addi x0 idx upd (ix1 x) = BitVec.ofNat 32 (Nat.count (fun i => gi i = x.val) M) := by
  rw [scatter_at, hx]
  have hl : ∀ n : Fin (shape1 M).numel, d.resultIdx? ((shape1 M).rowMajor.symm n) idx = some (ix1 x) ↔ decide (gi n.val = x.val) = true := fun n => by
    have h := hg (n.cast (numel1 M))
    have h31 := hg31 (n.cast (numel1 M))
    rw [symm1, lands_vector d hiw hsd hivd, h, StableHlo.Predicate.toInt_ofNat_small _ h31, decide_eq_true_iff]
    exact Int.ofNat_inj
  have hf : (fun (a : BitVec 32) (n : Fin (shape1 M).numel) =>
      if d.resultIdx? ((shape1 M).rowMajor.symm n) idx = some (ix1 x) then IntOp.addi a (upd ((shape1 M).rowMajor.symm n)) else a)
      = fun a n => if decide (gi n.val = x.val) = true then IntOp.addi a 1#32 else a := by
    funext a n
    rw [hupd]
    by_cases h : decide (gi n.val = x.val) = true
    · rw [if_pos h, if_pos ((hl n).2 h)]
    · rw [if_neg h, if_neg fun h' => h ((hl n).1 h')]
  rw [hf]
  refine (foldl_add_one _ _ 0).trans ?_
  rw [Nat.zero_add, countP_finRange _ (fun i => gi i = x.val), numel1]

end Cert.GraphNorm
-- ==== Proof.Counting.lean ====
/-
  Two sums and a count of natural numbers: what the reference's running sums come to when every graph has 500 nodes.
-/
module

public import Mathlib.Data.Nat.Count

@[expose] public section

namespace Cert.GraphNorm

/-- A first term 0 and then `k` terms `s` sum to `s * k`. -/
theorem sum_zero_then (s k : Nat) : ((List.range (k + 1)).map fun x => if x = 0 then 0 else s).sum = s * k := by
  induction k with
  | zero => simp
  | succ k ih => rw [List.range_succ, List.map_append, List.sum_append, ih]; simp [Nat.mul_add]

/-- Counting the `i` with `q i < n + 1` is counting those with `q i < n` and those with `q i = n`. -/
theorem count_lt_succ (q : Nat → Nat) (n M : Nat) :
    Nat.count (fun i => q i < n + 1) M = Nat.count (fun i => q i < n) M + Nat.count (fun i => q i = n) M := by
  induction M with
  | zero => simp
  | succ M ih =>
    rw [Nat.count_succ, Nat.count_succ, Nat.count_succ, ih]
    split_ifs <;> omega

/-- Summing over `x < n` how many `i < M` have `q i = x` counts the `i < M` with `q i < n`. -/
theorem sum_count (q : Nat → Nat) (n M : Nat) :
    ((List.range n).map fun x => Nat.count (fun i => q i = x) M).sum = Nat.count (fun i => q i < n) M := by
  induction n with
  | zero => induction M with
    | zero => simp
    | succ M ih => rw [Nat.count_succ]; simpa using ih
  | succ n ih => rw [List.range_succ, List.map_append, List.sum_append, ih, count_lt_succ]; simp

/-- Of the multiples `500 * i`, `i < M`, exactly `min M (j / 500 + 1)` lie at or below `j`. -/
theorem count_multiples (j M : Nat) : Nat.count (fun i => 500 * i < j + 1) M = min M (j / 500 + 1) := by
  induction M with
  | zero => simp
  | succ M ih =>
    rw [Nat.count_succ, ih]
    split_ifs <;> omega

end Cert.GraphNorm
-- ==== Proof.BatchIndex.lean ====
/-
  The reference's row-to-graph map. The reference repeats graph `g`'s number once for each of its nodes by two running
  sums and two scatters. When every count is 500, row `i` belongs to graph `i / 500`.
-/
module

public import proofs.«01_k».proof.Proof.Scatters
public import proofs.«01_k».proof.Proof.Counting
public import proofs.«01_k».proof.Proof.Gen.ReferenceIdeal.Run
public import Idealize.ShloMosaic.Lib.Routing.OpsPair
public import Idealize.ShloMosaic.Lib.Routing.OpsSearch
public import Idealize.ShloMosaic.Lib.Pointwise.SelectCore
public import Idealize.ShloMosaic.Lib.ReduceAll

@[expose] public section

noncomputable section

namespace Cert.GraphNorm

open Idealize.ShloMosaic hiding ix0 ix1 ix2 ix3
open Idealize.ShloMosaic.ValueIdx Idealize.ShloMosaic.Routing
open Cert.ReferenceIdeal Cert.ReferenceIdeal.Gen Cert.ReferenceIdeal.Value Idealize.ShloMosaic.TcCoe

variable {F : FTy → Type} [FloatOps F]

/-- A vector of index words below `2 ^ 31` is what the program's wrap of negative indices leaves it. -/
theorem wrap_id {s : Shape} (v z a : IVec s 32) (hz : ∀ i, z i = 0#32) (i : s.Idx) (h : (v i).toNat < 2 ^ 31) :
    select (cmpi .slt v z) (addi v a) v i = v i := by
  show Scalar.select (IntOp.cmpi .slt (v i) (z i)) _ (v i) = v i
  rw [hz]
  exact wrap_of_lt _ _ h

/-- The mask of a take with a fill value is 1 at a row whose index word lies in `0 ≤ · ≤ top`. -/
theorem mask_one {n : Nat} (idx lo hi : IVec (shape2 n 1) 32) (init : IVec shape0 1) (hinit : ∀ i, init i = 1#1)
    (h : (shape2 n 1).ReducesTo [1] (shape1 n)) (hu : 0 < shape0.numel) (f : Nat → Nat) (top : Nat) (htop : top < 2 ^ 31)
    (hlo : ∀ i, lo i = 0#32) (hhi : ∀ i, hi i = BitVec.ofNat 32 top)
    (hidx : ∀ p : Fin n, idx (ix2 p (0 : Fin 1)) = BitVec.ofNat 32 (f p.val)) (hf : ∀ p : Fin n, f p.val ≤ top) (j : (shape1 n).Idx) :
    Host.reduce IntOp.andi (andi (cmpi .sge idx lo) (cmpi .sle idx hi)) init h hu j = 1#1 := by
  refine Host.reduce_andi_one _ _ h hu j (hinit _) fun i => ?_
  obtain ⟨p, q, rfl⟩ : ∃ (p : Fin n) (q : Fin 1), i = ix2 p q := ⟨_, _, ValueIdx.eq_ix2 i⟩
  obtain rfl : q = 0 := Subsingleton.elim _ _
  have h1 := hf p
  show IntOp.andi (IntOp.cmpi .sge (idx (ix2 p 0)) (lo (ix2 p 0))) (IntOp.cmpi .sle (idx (ix2 p 0)) (hi (ix2 p 0))) = 1#1
  rw [hlo, hhi, hidx]
  have e1 : IntOp.cmpi .sge (BitVec.ofNat 32 (f p.val)) 0#32 = 1#1 := by
    show BitVec.ofBool ((BitVec.ofNat 32 0).sle (BitVec.ofNat 32 (f p.val))) = 1#1
    rw [sle_ofNat32 (by norm_num) (by omega), decide_eq_true (Nat.zero_le _)]
    rfl
  have e2 : IntOp.cmpi .sle (BitVec.ofNat 32 (f p.val)) (BitVec.ofNat 32 top) = 1#1 := by
    show BitVec.ofBool ((BitVec.ofNat 32 (f p.val)).sle (BitVec.ofNat 32 top)) = 1#1
    rw [sle_ofNat32 (by omega) htop, decide_eq_true h1]
    rfl
  rw [e1, e2]
  rfl

/-- So the take with a fill value is the take itself, wherever every index word lies in `0 ≤ · ≤ top`. -/
theorem masked {α : Type} {n : Nat} (idx lo hi : IVec (shape2 n 1) 32) (init : IVec shape0 1) (hinit : ∀ i, init i = 1#1)
    (h : (shape2 n 1).ReducesTo [1] (shape1 n)) (hu : 0 < shape0.numel) (f : Nat → Nat) (top : Nat) (htop : top < 2 ^ 31)
    (hlo : ∀ i, lo i = 0#32) (hhi : ∀ i, hi i = BitVec.ofNat 32 top)
    (hidx : ∀ p : Fin n, idx (ix2 p (0 : Fin 1)) = BitVec.ofNat 32 (f p.val)) (hf : ∀ p : Fin n, f p.val ≤ top)
    (taken fill : (shape1 n).Idx → α) (j : (shape1 n).Idx) :
    select (Host.reduce IntOp.andi (andi (cmpi .sge idx lo) (cmpi .sle idx hi)) init h hu) taken fill j = taken j := by
  refine (select_apply _ _ _ _).trans ?_
  rw [mask_one idx lo hi init hinit h hu f top htop hlo hhi hidx hf j]
  exact select_one _ _

/-- Graph numbers stay at or below 99. -/
theorem below (p : Fin 50000) : p.val / 500 ≤ 99 := by
  have := p.isLt
  omega

section
variable (V : Valuation τ sig (Elt F)) (hc : ∀ i, V (Proc.devRef .tc main_arg1) i = 500#32)
include hc

/-- Graph `k` starts at row `500 * k`. -/
theorem starts (k : Fin 100) : res_main_v4 V (ix1 k) = BitVec.ofNat 32 (500 * k.val) := by
  unfold res_main_v4
  refine (cumsum1 (N := 100) (Nm1 := 99) rfl _ (fun x => if x = 0 then 0 else 500) (fun i => ?_) _ rfl _ _ k).trans
    (congrArg _ (sum_zero_then 500 k.val))
  by_cases h0 : i.val = 0
  · rw [if_pos h0]
    exact scatter_set_hit _ _ _ _ _ _ (fun _ _ => rfl) ix0 ((lands_scalar _ rfl rfl rfl _ _ i).2 (by rw [h0]; rfl))
  · rw [if_neg h0]
    refine (scatter_set_miss _ _ _ _ _ fun q hq => h0 ?_).trans ?_
    · have := (lands_scalar _ rfl rfl rfl _ _ i).1 hq
      exact (Int.ofNat_inj.1 this).symm
    · refine concatenate_forall (P := fun w => w = BitVec.ofNat 32 500) _ _ _ _ (fun p hp i => ?_) _
      rcases List.mem_pair.1 hp with rfl | rfl <;> exact hc _

/-- Row `j` comes after the start of `j / 500 + 1` graphs, and one less is its graph's number. -/
theorem before (j : Fin 50000) : res_main_v16 V (ix1 j) = BitVec.ofNat 32 (j.val / 500) := by
  unfold res_main_v16
  have hj := j.isLt
  have hs : Host.reduceWindow IntOp.addi ![50000] ![1] ![49999] ![0] (Host.scatter scatter_S50000_S100x1_S100_n_0_0_1 IntOp.addi (broadcastInDim S50000 ![] bcast_S_S50000 (constantI S_ 32 0#32)) (broadcastInDim S100x1 ![0] bcast_S100_S100x1_0 (select (cmpi .slt (res_main_v4 V) (broadcastInDim S100 ![] bcast_S_S100 (constantI S_ 32 0#32))) (addi (res_main_v4 V) (broadcastInDim S100 ![] bcast_S_S100 (constantI S_ 32 50000#32))) (res_main_v4 V))) (broadcastInDim S100 ![] bcast_S_S100 (constantI S_ 32 1#32))) (broadcastInDim S_ ![] bcast_S_S_ (constantI S_ 32 0#32)) reduceWindows_S50000_S50000_w50000s1p49999_0 h_S_ (ix1 j)
      = BitVec.ofNat 32 (j.val / 500 + 1) := by
    refine (cumsum1 (N := 50000) (Nm1 := 49999) rfl _ (fun x => Nat.count (fun i => 500 * i = x) 100) (fun x => ?_) _ rfl _ _ j).trans
      (congrArg _ ?_)
    · refine scatter_ones _ rfl rfl rfl _ _ _ (fun i => 500 * i) (fun _ => rfl) (fun _ => rfl) (fun i => ?_) (fun i => ?_) x
      · have hi := i.isLt
        refine (bcCol _ _ i).trans ((wrap_id _ _ _ (fun _ => rfl) _ ?_).trans (starts V hc i))
        rw [starts V hc i, BitVec.toNat_ofNat]
        exact lt_of_le_of_lt (Nat.mod_le _ _) (by omega)
      · have hi := i.isLt
        omega
    · rw [sum_count, count_multiples]
      omega
  refine (congrArg (fun w => w - 1#32) hs).trans ((StableHlo.Predicate.sub_one_ofNat _ (by omega) (by omega)).trans ?_)
  rw [Nat.add_sub_cancel]

/-- The index the take of the graph numbers reads at row `j`. -/
theorem takeIndex (j : Fin 50000) : res_main_call3_v5 V (ix2 j (0 : Fin 1)) = BitVec.ofNat 32 (j.val / 500) := by
  have hj := j.isLt
  unfold res_main_call3_v5
  refine (bcCol _ _ j).trans ((wrap_id _ _ _ (fun _ => rfl) _ ?_).trans (before V hc j))
  rw [before V hc j, BitVec.toNat_ofNat]
  omega

/-- Row `j` belongs to graph `j / 500`. -/
theorem graphOf (j : Fin 50000) : res_main_v17 V (ix1 j) = BitVec.ofNat 32 (j.val / 500) := by
  have hj := j.isLt
  unfold res_main_v17
  refine (masked (n := 50000) _ _ _ _ (by exact fun _ => rfl) _ _ (fun x => x / 500) 99 (by norm_num)
    (by exact fun _ => rfl) (by exact fun _ => rfl) (takeIndex V hc) below _ _ _).trans ?_
  exact take_ap _ rfl rfl rfl rfl _ _ j (k := j.val / 500) (by omega) (by omega) (takeIndex V hc j)

/-- The index at which row `j` reads its graph's mean is `j / 500`. -/
theorem meanIndex (j : Fin 50000) : res_main_call4_v5 V (ix2 j (0 : Fin 1)) = BitVec.ofNat 32 (j.val / 500) := by
  have hj := j.isLt
  unfold res_main_call4_v5
  refine (bcCol _ _ j).trans ((wrap_id _ _ _ (fun _ => rfl) _ ?_).trans (graphOf V hc j))
  rw [graphOf V hc j, BitVec.toNat_ofNat]
  omega

/-- The index at which row `j` reads its graph's standard deviation is `j / 500`. -/
theorem stdIndex (j : Fin 50000) : res_main_call5_v5 V (ix2 j (0 : Fin 1)) = BitVec.ofNat 32 (j.val / 500) :=
  meanIndex V hc j

end

end Cert.GraphNorm
-- ==== Proof.Column.lean ====
/-
  One graph, one feature: the kernel's value of a row and the reference's, as functions of the graph's 500 features in
  that column, and their equality when those features, the weight and the mean scale are finite.
-/
module

public import Idealize.ShloMosaic.PureOps.Ideal

@[expose] public section

noncomputable section

namespace Cert.GraphNorm

open Idealize.ShloMosaic

/-- The stabilizer both programs add to the variance: the 32-bit float nearest 1e-5. -/
def eps : EReal := Ideal.ofBits .f32 0x3727C5AC#32

/-- The stabilizer is a positive real. -/
theorem eps_pos : ∃ e : ℝ, 0 < e ∧ eps = (e : EReal) := by
  refine ⟨10995116 / 2 ^ 40, by norm_num, ?_⟩
  simp [eps, Ideal.ofBits, Ideal.ieee, -EReal.coe_mul]
  norm_num

/-- The word of 2.0 is the real 2. -/
theorem two_word : Ideal.ofBits .f32 0x40000000#32 = ((2 : ℝ) : EReal) := by
  simp [Ideal.ofBits, Ideal.ieee, -EReal.coe_mul]
  norm_num

/-- The word of 0.0 is 0. -/
theorem zero_word : Ideal.ofBits .f32 0x00000000#32 = 0 := by
  simp [Ideal.ofBits, Ideal.ieee]

/-- The kernel's value of row `i`, from the graph's column `x`, the weight, the bias and the mean scale: the mean and the
    mean square first, then the variance in expanded form, then one multiplication and one addition per row. -/
def kernelRow (x : Fin 500 → EReal) (w b ms : EReal) (i : Fin 500) : EReal :=
  let s := (∑ k, x k) * ((1 / 500 : ℝ) : EReal)
  let s2 := (∑ k, x k * x k) * ((1 / 500 : ℝ) : EReal)
  let c := s * ms
  let var := s2 - ((2 : ℝ) : EReal) * c * s + c * c
  let a := w * Ideal.rsqrt (var + eps)
  x i * a + (b - c * a)

/-- The scaled mean the reference subtracts, from the graph's column. -/
def centred (x : Fin 500 → EReal) (ms : EReal) (i : Fin 500) : EReal :=
  x i - Ideal.div (∑ k, x k) ((500 : ℝ) : EReal) * ms

/-- The reference's value of row `i`: centre, take the mean square of the centred rows, divide by its stabilized root. -/
def referenceRow (x : Fin 500 → EReal) (w b ms : EReal) (i : Fin 500) : EReal :=
  Ideal.div (w * centred x ms i)
    (Ideal.sqrt (Ideal.div (∑ k, centred x ms k * centred x ms k) ((500 : ℝ) : EReal) + eps)) + b

/-- The expanded variance is the mean square of the centred rows: for reals. -/
theorem variance_eq (r : Fin 500 → ℝ) (c : ℝ) :
    (∑ k, r k * r k) * (1 / 500) - 2 * c * ((∑ k, r k) * (1 / 500)) + c * c = (∑ k, (r k - c) * (r k - c)) * (1 / 500) := by
  have h : ∀ k, (r k - c) * (r k - c) = r k * r k - 2 * c * r k + c * c := fun k => by ring
  simp only [h, Finset.sum_add_distrib, Finset.sum_sub_distrib, ← Finset.mul_sum, Finset.sum_const, Finset.card_univ, Fintype.card_fin,
    nsmul_eq_mul]
  push_cast
  ring

/-- A finite sum of reals is real. -/
theorem coe_sum {n : Nat} (f : Fin n → ℝ) : ((∑ k, f k : ℝ) : EReal) = ∑ k, (f k : EReal) :=
  map_sum (⟨⟨Real.toEReal, EReal.coe_zero⟩, EReal.coe_add⟩ : ℝ →+ EReal) f Finset.univ

/-- The inverse square root of a positive real. -/
theorem rsqrt_coe {v : ℝ} (hv : 0 < v) : Ideal.rsqrt (v : EReal) = ((1 / √v : ℝ) : EReal) := by
  show (if v < 0 then ⊥ else if v = 0 then ⊤ else (((√v)⁻¹ : ℝ) : EReal)) = _
  rw [if_neg hv.not_gt, if_neg hv.ne', one_div]

/-- The square root of a positive real. -/
theorem sqrt_coe {v : ℝ} (hv : 0 < v) : Ideal.sqrt (v : EReal) = ((√v : ℝ) : EReal) := by
  show (if v < 0 then ⊥ else ((√v : ℝ) : EReal)) = _
  rw [if_neg hv.not_gt]

/-- The two rows agree: for a column, a weight and a mean scale that are finite, and any bias. -/
theorem rows_eq (r : Fin 500 → ℝ) (w ms : ℝ) (b : EReal) (i : Fin 500) :
    kernelRow (fun k => (r k : EReal)) w b ms i = referenceRow (fun k => (r k : EReal)) w b ms i := by
  obtain ⟨e, he, hE⟩ := eps_pos
  have h500 : (500 : ℝ) ≠ 0 := by norm_num
  set S : ℝ := ∑ k, r k with hS
  set c : ℝ := S * (1 / 500) * ms with hc
  set v : ℝ := (∑ k, (r k - c) * (r k - c)) * (1 / 500) with hv
  have hv0 : 0 ≤ v := mul_nonneg (Finset.sum_nonneg fun k _ => mul_self_nonneg _) (by norm_num)
  have hve : 0 < v + e := add_pos_of_nonneg_of_pos hv0 he
  have hroot : √(v + e) ≠ 0 := (Real.sqrt_pos.2 hve).ne'
  have hcen : ∀ k, centred (fun k => (r k : EReal)) ms k = ((r k - c : ℝ) : EReal) := fun k => by
    unfold centred
    rw [Ideal.div_coe h500, ← coe_sum, ← EReal.coe_mul, ← EReal.coe_mul, ← EReal.coe_sub]
  have href : referenceRow (fun k => (r k : EReal)) w b ms i = ((w * (r i - c) * (1 / √(v + e)) : ℝ) : EReal) + b := by
    unfold referenceRow
    simp only [hcen, ← EReal.coe_mul]
    rw [← coe_sum, Ideal.div_coe h500, ← EReal.coe_mul, hE, ← EReal.coe_add, sqrt_coe hve, Ideal.div_coe hroot, ← EReal.coe_mul]
  have hker : kernelRow (fun k => (r k : EReal)) w b ms i
      = ((r i * (w * (1 / √(v + e))) : ℝ) : EReal) + (b - ((c * (w * (1 / √(v + e))) : ℝ) : EReal)) := by
    unfold kernelRow
    simp only [← EReal.coe_mul, ← coe_sum]
    rw [← EReal.coe_sub, ← EReal.coe_add, hE, ← EReal.coe_add, variance_eq, rsqrt_coe hve]
    simp only [← EReal.coe_mul]
    rfl
  rw [hker, href, sub_eq_add_neg, add_comm b, ← add_assoc, ← EReal.coe_neg, ← EReal.coe_add]
  refine congrArg (fun t : ℝ => (t : EReal) + b) ?_
  generalize √(v + e) = q
  generalize c = c'
  ring

end Cert.GraphNorm

end
-- ==== Proof.Rows.lean ====
/-
  The 50000 rows as 100 graphs of 500 places.
-/
module

public import Mathlib.Data.EReal.Basic
public import Mathlib.Algebra.BigOperators.Fin

@[expose] public section

namespace Cert.GraphNorm

/-- Row `k` of graph `g`. -/
def rowOf (g : Fin 100) (k : Fin 500) : Fin 50000 := ⟨500 * g.val + k.val, by have := g.isLt; have := k.isLt; omega⟩

/-- The graph of row `j`. -/
def graph (j : Fin 50000) : Fin 100 := ⟨j.val / 500, by have := j.isLt; omega⟩

/-- The number of the graph of row `j`. -/
theorem graph_val (j : Fin 50000) : (graph j).val = j.val / 500 := rfl

/-- The place of row `j` in its graph. -/
def place (j : Fin 50000) : Fin 500 := ⟨j.val % 500, Nat.mod_lt _ (by norm_num)⟩

/-- A row is the row at its place in its graph. -/
theorem rowOf_graph (j : Fin 50000) : rowOf (graph j) (place j) = j := Fin.ext (Nat.div_add_mod j.val 500)

/-- The graph of row `k` of graph `g` is `g`. -/
theorem graph_rowOf (g : Fin 100) (k : Fin 500) : graph (rowOf g k) = g := by
  have := k.isLt
  exact Fin.ext (by show (500 * g.val + k.val) / 500 = g.val; omega)

/-- The place of row `k` of graph `g` is `k`. -/
theorem place_rowOf (g : Fin 100) (k : Fin 500) : place (rowOf g k) = k := by
  have := k.isLt
  exact Fin.ext (by show (500 * g.val + k.val) % 500 = k.val; omega)

/-- Different places are different rows. -/
theorem rowOf_injective (g : Fin 100) : Function.Injective (rowOf g) := fun a b h => by
  have := congrArg Fin.val h
  simp only [rowOf] at this
  exact Fin.ext (by omega)

/-- A sum over the rows of a graph is a sum over its 500 places. -/
theorem sum_rows (f : Fin 50000 → EReal) (g : Fin 100) : ∑ j ∈ Finset.univ.filter (fun j => graph j = g), f j = ∑ k, f (rowOf g k) := by
  have himage : Finset.univ.filter (fun j => graph j = g) = Finset.univ.image (rowOf g) := by
    ext j
    simp only [Finset.mem_filter, Finset.mem_univ, true_and, Finset.mem_image]
    exact ⟨fun h => ⟨place j, by rw [← h]; exact rowOf_graph j⟩, fun ⟨k, hk⟩ => by rw [← hk]; exact graph_rowOf g k⟩
  rw [himage, Finset.sum_image fun a _ b _ h => rowOf_injective g h]

end Cert.GraphNorm
-- ==== Proof.RefValue.lean ====
/-
  What the reference computes, at an index: when every count is 500, row `j` of its result is `referenceRow` of the column
  of graph `j / 500`.
-/
module

public import proofs.«01_k».proof.Proof.BatchIndex
public import proofs.«01_k».proof.Proof.Column
public import proofs.«01_k».proof.Proof.Rows

@[expose] public section

noncomputable section

namespace Cert.GraphNorm

open Idealize.ShloMosaic hiding ix0 ix1 ix2 ix3
open Idealize.ShloMosaic.ValueIdx Idealize.ShloMosaic.Routing
open Cert.ReferenceIdeal Cert.ReferenceIdeal.Gen Cert.ReferenceIdeal.Value Idealize.ShloMosaic.TcCoe

/-- A scatter that adds rows into a matrix, row `i` at row `gi i`, holds at `(r, c)` the operand there and the sum of column
    `c` over the rows sent to `r`. -/
theorem scatterAdd_rows {R C M : Nat} (d : ScatterDims (shape2 R C) (shape2 M 1) (shape2 M C)) (huw : d.updateWindowDims = [1])
    (hiw : d.insertedWindowDims = [0]) (hsd : d.scatterDimsToOperandDims = [0]) (hivd : d.indexVectorDim = 1)
    (x0 : FVec Ideal (shape2 R C) .f32) (idx : IVec (shape2 M 1) 32) (upd : FVec Ideal (shape2 M C) .f32) (gi : Fin M → Fin R) (hR : R < 2 ^ 31)
    (hidx : ∀ i : Fin M, idx (ix2 i (0 : Fin 1)) = BitVec.ofNat 32 (gi i).val) (r : Fin R) (c : Fin C) :
    (Host.scatterAdd d x0 idx upd (ix2 r c) : EReal)
      = x0 (ix2 r c) + ∑ i ∈ Finset.univ.filter (fun i => gi i = r), (upd (ix2 i c) : EReal) := by
  have hl : ∀ i q, d.resultIdx? (ix2 i q) idx = some (ix2 r c) ↔ gi i = r ∧ q = c := fun i q => by
    have hlt : (gi i).val < 2 ^ 31 := lt_trans (gi i).isLt hR
    rw [lands_rows d huw hiw hsd hivd, hidx, StableHlo.Predicate.toInt_ofNat_small _ hlt]
    exact and_congr_left' (Int.ofNat_inj.trans Fin.ext_iff.symm)
  show (x0 (ix2 r c) + ∑ k ∈ Finset.univ.filter (fun k => d.resultIdx? k idx = some (ix2 r c)), (upd k : EReal) : EReal) = _
  refine congrArg (fun t : EReal => (x0 (ix2 r c) : EReal) + t) ?_
  symm
  refine Finset.sum_nbij (fun i => ix2 i c) ?_ ?_ ?_ fun _ _ => rfl
  · intro i hi
    simp only [Finset.mem_filter, Finset.mem_univ, true_and] at hi ⊢
    exact (hl i c).2 ⟨hi, rfl⟩
  · intro a _ b _ h
    exact congrFun h (0 : Fin 2)
  · intro k hk
    obtain ⟨i, q, rfl⟩ : ∃ (i : Fin M) (q : Fin C), k = ix2 i q := ⟨_, _, ValueIdx.eq_ix2 k⟩
    simp only [Finset.coe_filter, Finset.mem_univ, true_and, Set.mem_setOf_eq] at hk
    obtain ⟨h1, rfl⟩ := (hl i q).1 hk
    exact ⟨i, by simpa using h1, rfl⟩

/-- A vector broadcast along each row of a matrix is constant on the row. -/
theorem broadcast_rows {α : Type} {n m : Nat} (h : (shape1 n).BroadcastsInDim (shape2 n m) (![0] : Fin 1 → Fin (shape2 n m).rank))
    (v : (shape1 n).Idx → α) (p : Fin n) (q : Fin m) : broadcastInDim (shape2 n m) ![0] h v (ix2 p q) = v (ix1 p) := by
  refine broadcastInDim_apply _ h v _ _ fun a => ?_
  match a with
  | ⟨0, _⟩ =>
    show p.val = if n = 1 then 0 else p.val
    have := p.isLt
    split <;> omega

/-- The take of rows with a fill value is the row the index word names, wherever every index word names a row. -/
theorem takeRow {α : Type} {n R C : Nat} (d : GatherDims (shape2 R C) (shape2 n 1) (shape2 n C)) (hoff : d.offsetDims = [1])
    (hcoll : d.collapsedSliceDims = [0]) (hob : d.operandBatchingDims = []) (hsim : d.startIndexMap = [0]) (hivd : d.indexVectorDim = 1)
    (idx lo hi : IVec (shape2 n 1) 32) (init : IVec shape0 1) (hinit : ∀ i, init i = 1#1)
    (h : (shape2 n 1).ReducesTo [1] (shape1 n)) (hu : 0 < shape0.numel)
    (hb : (shape1 n).BroadcastsInDim (shape2 n C) (![0] : Fin 1 → Fin (shape2 n C).rank)) (f : Nat → Nat) (top : Nat) (hR : R = top + 1)
    (htop : R < 2 ^ 31) (hlo : ∀ i, lo i = 0#32) (hhi : ∀ i, hi i = BitVec.ofNat 32 top)
    (hidx : ∀ p : Fin n, idx (ix2 p (0 : Fin 1)) = BitVec.ofNat 32 (f p.val)) (hf : ∀ p : Fin n, f p.val ≤ top)
    (x : (shape2 R C).Idx → α) (fill : (shape2 n C).Idx → α) (j : Fin n) (q : Fin C) :
    select (broadcastInDim (shape2 n C) ![0] hb (Host.reduce IntOp.andi (andi (cmpi .sge idx lo) (cmpi .sle idx hi)) init h hu))
        (Host.gather d x idx) fill (ix2 j q) = x (ix2 (⟨f j.val, by have := hf j; omega⟩ : Fin R) q) := by
  refine (select_apply _ _ _ _).trans ?_
  rw [broadcast_rows, mask_one idx lo hi init hinit h hu f top (by omega) hlo hhi hidx hf]
  exact (select_one _ _).trans (gather_row d hoff hcoll hob hsim hivd x idx j q _ (hidx j) htop)

/-- A difference with a product, at an index. -/
theorem sub_mul_apply {s : Shape} (A M S : FVec Ideal s .f32) (i : s.Idx) {a m t : EReal} (ha : (A i : EReal) = a) (hm : (M i : EReal) = m)
    (ht : (S i : EReal) = t) : (subf A (mulf M S) i : EReal) = a - m * t := by
  subst ha hm ht
  rfl

/-- A product over a divisor, plus a term, at an index. -/
theorem div_add_apply {s : Shape} (W O D B : FVec Ideal s .f32) (i : s.Idx) {w o d b : EReal} (hw : (W i : EReal) = w) (ho : (O i : EReal) = o)
    (hd : (D i : EReal) = d) (hb : (B i : EReal) = b) : (addf (Host.divf (mulf W O) D) B i : EReal) = Ideal.div (w * o) d + b := by
  subst hw ho hd hb
  rfl

/-- The features, of a reading of the reference's buffers. -/
abbrev features (V : Valuation τ sig (Elt Ideal)) : S50000x256.Idx → EReal := V (Proc.devRef .tc main_arg0)
/-- The weight. -/
abbrev weight (V : Valuation τ sig (Elt Ideal)) : S256.Idx → EReal := V (Proc.devRef .tc main_arg2)
/-- The bias. -/
abbrev bias (V : Valuation τ sig (Elt Ideal)) : S256.Idx → EReal := V (Proc.devRef .tc main_arg3)
/-- The mean scale. -/
abbrev meanScale (V : Valuation τ sig (Elt Ideal)) : S256.Idx → EReal := V (Proc.devRef .tc main_arg4)

/-- The reference's read of a per-graph table at each row: row `j` reads the entry of graph `j / 500`. -/
theorem takeGraph (idx : IVec S50000x1 32) (hidx : ∀ p : Fin 50000, idx (ix2 p (0 : Fin 1)) = BitVec.ofNat 32 (p.val / 500))
    (Y : FVec Ideal S100x256 .f32) (fill : FVec Ideal S50000x256 .f32) (j : Fin 50000) (q : Fin 256) :
    select (broadcastInDim S50000x256 ![0] bcast_S50000_S50000x256_0 (Host.reduce IntOp.andi
        (andi (cmpi .sge idx (broadcastInDim S50000x1 ![] bcast_S_S50000x1 (constantI S_ 32 0#32)))
          (cmpi .sle idx (broadcastInDim S50000x1 ![0, 1] bcast_S1x1_S50000x1_0_1 (broadcastInDim S1x1 ![1] bcast_S1_S1x1_1 (constantI S1 32 99#32)))))
        (constantI S_ 1 1#1) reducesTo_S50000x1_S50000_d1 h_S_))
      (Host.gather gather_S100x256_S50000x1_S50000x256_1_0_n_n_0_1_1256 Y idx) fill (ix2 j q) = Y (ix2 (graph j) q) :=
  takeRow gather_S100x256_S50000x1_S50000x256_1_0_n_n_0_1_1256 rfl rfl rfl rfl rfl idx _ _ _ (by exact fun _ => rfl) _ _ _ (fun x => x / 500) 99
    rfl (by norm_num) (by exact fun _ => rfl) (by exact fun _ => rfl) hidx below Y fill j q

/-- The mean over each graph, from any row-to-graph map that sends row `i` to graph `i / 500` and any counts that are 500. -/
theorem graphMean_of (v : IVec S50000 32) (hv : ∀ i : Fin 50000, v (ix1 i) = BitVec.ofNat 32 (i.val / 500)) (n : FVec Ideal S100 .f32)
    (hn : ∀ g : Fin 100, (n (ix1 g) : EReal) = ((500 : ℝ) : EReal)) (X : FVec Ideal S50000x256 .f32) (g : Fin 100) (q : Fin 256) :
    (Host.divf (Host.scatterAdd scatter_S100x256_S50000x1_S50000x256_1_0_0_1
        (broadcastInDim S100x256 ![] bcast_S_S100x256 (constant S_ .f32 0x00000000#32))
        (broadcastInDim S50000x1 ![0] bcast_S50000_S50000x1_0 v) X)
      (broadcastInDim S100x256 ![0, 1] bcast_S100x1_S100x256_0_1 (broadcastInDim S100x1 ![0] bcast_S100_S100x1_0 n))
      (ix2 g q) : EReal) = Ideal.div (∑ k, X (ix2 (rowOf g k) q)) ((500 : ℝ) : EReal) := by
  have hi : ∀ i : Fin 50000, broadcastInDim S50000x1 ![0] bcast_S50000_S50000x1_0 v (ix2 i (0 : Fin 1)) = BitVec.ofNat 32 (graph i).val :=
    fun i => (bcCol _ v i).trans (hv i)
  have hs := scatterAdd_rows scatter_S100x256_S50000x1_S50000x256_1_0_0_1 rfl rfl rfl rfl
    (broadcastInDim S100x256 ![] bcast_S_S100x256 (constant S_ .f32 0x00000000#32))
    (broadcastInDim S50000x1 ![0] bcast_S50000_S50000x1_0 v) X graph (by norm_num) hi g q
  rw [sum_rows (fun j => X (ix2 j q))] at hs
  have hz : (broadcastInDim S100x256 ![] bcast_S_S100x256 (constant (F := Ideal) S_ .f32 0x00000000#32) (ix2 g q) : EReal) = 0 := zero_word
  rw [hz, zero_add] at hs
  exact congrArg₂ Ideal.div hs ((bcRows _ _ n g q).trans (hn g))

section
variable (V : Valuation τ sig (Elt Ideal)) (hc : ∀ i, V (Proc.devRef .tc main_arg1) i = 500#32)
include hc

/-- The mean over each graph, in each column, of any table with a row per node. -/
theorem graphMean (X : FVec Ideal S50000x256 .f32) (g : Fin 100) (q : Fin 256) :
    (Host.divf (Host.scatterAdd scatter_S100x256_S50000x1_S50000x256_1_0_0_1
        (broadcastInDim S100x256 ![] bcast_S_S100x256 (constant S_ .f32 0x00000000#32))
        (broadcastInDim S50000x1 ![0] bcast_S50000_S50000x1_0 (res_main_v17 V)) X)
      (broadcastInDim S100x256 ![0, 1] bcast_S100x1_S100x256_0_1 (broadcastInDim S100x1 ![0] bcast_S100_S100x1_0 (res_main_v18 V)))
      (ix2 g q) : EReal) = Ideal.div (∑ k, X (ix2 (rowOf g k) q)) ((500 : ℝ) : EReal) :=
  graphMean_of (res_main_v17 V) (graphOf V hc) (res_main_v18 V) (fun g => by
    show (((V (Proc.devRef .tc main_arg1) (ix1 g) : BitVec 32).toInt : ℝ) : EReal) = _
    rw [hc, show (500#32 : BitVec 32).toInt = 500 from by decide]
    norm_num) X g q

/-- The reference's centred features. -/
theorem centred_eq (j : Fin 50000) (q : Fin 256) : (res_main_v29 V (ix2 j q) : EReal)
    = centred (fun k => features V (ix2 (rowOf (graph j) k) q)) (meanScale V (ix1 q)) (place j) := by
  unfold res_main_v29 centred
  have ht := (takeGraph (res_main_call4_v5 V) (meanIndex V hc) _ (broadcastInDim S50000x256 ![] bcast_S_S50000x256 (constant S_ .f32 0x7FC00000#32))
    j q).trans (graphMean V hc (V (Proc.devRef .tc main_arg0)) (graph j) q)
  refine (sub_mul_apply (features V) _ _ (ix2 j q) rfl ht (bcCols bcast_S256_S1x256_1 bcast_S1x256_S50000x256_0_1 (meanScale V) j q)).trans ?_
  beta_reduce
  rw [rowOf_graph]

/-- The reference's result at an index. -/
theorem result_eq (j : Fin 50000) (q : Fin 256) : (addf (Host.divf (mulf (broadcastInDim S50000x256 ![0, 1] bcast_S1x256_S50000x256_0_1 (broadcastInDim S1x256 ![1] bcast_S256_S1x256_1 (V (Proc.devRef .tc main_arg2)))) (res_main_v29 V))
      (select (broadcastInDim S50000x256 ![0] bcast_S50000_S50000x256_0 (Host.reduce IntOp.andi (andi (cmpi .sge (res_main_call5_v5 V) (broadcastInDim S50000x1 ![] bcast_S_S50000x1 (constantI S_ 32 0#32))) (cmpi .sle (res_main_call5_v5 V) (broadcastInDim S50000x1 ![0, 1] bcast_S1x1_S50000x1_0_1 (broadcastInDim S1x1 ![1] bcast_S1_S1x1_1 (constantI S1 32 99#32))))) (constantI S_ 1 1#1) reducesTo_S50000x1_S50000_d1 h_S_))
        (Host.gather gather_S100x256_S50000x1_S50000x256_1_0_n_n_0_1_1256 (Host.sqrt (addf (Host.divf (Host.scatterAdd scatter_S100x256_S50000x1_S50000x256_1_0_0_1 (broadcastInDim S100x256 ![] bcast_S_S100x256 (constant S_ .f32 0x00000000#32)) (broadcastInDim S50000x1 ![0] bcast_S50000_S50000x1_0 (res_main_v17 V)) (mulf (res_main_v29 V) (res_main_v29 V))) (broadcastInDim S100x256 ![0, 1] bcast_S100x1_S100x256_0_1 (broadcastInDim S100x1 ![0] bcast_S100_S100x1_0 (res_main_v18 V)))) (broadcastInDim S100x256 ![] bcast_S_S100x256 (constant S_ .f32 0x3727C5AC#32)))) (res_main_call5_v5 V)) (broadcastInDim S50000x256 ![] bcast_S_S50000x256 (constant S_ .f32 0x7FC00000#32))))
      (broadcastInDim S50000x256 ![0, 1] bcast_S1x256_S50000x256_0_1 (broadcastInDim S1x256 ![1] bcast_S256_S1x256_1 (V (Proc.devRef .tc main_arg3)))) (ix2 j q) : EReal)
    = referenceRow (fun k => features V (ix2 (rowOf (graph j) k) q)) (weight V (ix1 q))
        (bias V (ix1 q)) (meanScale V (ix1 q)) (place j) := by
  have hsum : (∑ k, (mulf (res_main_v29 V) (res_main_v29 V) (ix2 (rowOf (graph j) k) q) : EReal))
      = ∑ k, centred (fun k => features V (ix2 (rowOf (graph j) k) q)) (meanScale V (ix1 q)) k
          * centred (fun k => features V (ix2 (rowOf (graph j) k) q)) (meanScale V (ix1 q)) k := by
    refine Finset.sum_congr rfl fun k _ => ?_
    have hk := centred_eq V hc (rowOf (graph j) k) q
    rw [graph_rowOf, place_rowOf] at hk
    exact congrArg₂ (fun a b : EReal => a * b) hk hk
  have hv := graphMean V hc (mulf (res_main_v29 V) (res_main_v29 V)) (graph j) q
  rw [hsum] at hv
  have hstd := (takeGraph (res_main_call5_v5 V) (stdIndex V hc) (Host.sqrt (addf (Host.divf (Host.scatterAdd scatter_S100x256_S50000x1_S50000x256_1_0_0_1 (broadcastInDim S100x256 ![] bcast_S_S100x256 (constant S_ .f32 0x00000000#32)) (broadcastInDim S50000x1 ![0] bcast_S50000_S50000x1_0 (res_main_v17 V)) (mulf (res_main_v29 V) (res_main_v29 V))) (broadcastInDim S100x256 ![0, 1] bcast_S100x1_S100x256_0_1 (broadcastInDim S100x1 ![0] bcast_S100_S100x1_0 (res_main_v18 V)))) (broadcastInDim S100x256 ![] bcast_S_S100x256 (constant S_ .f32 0x3727C5AC#32))))
    (broadcastInDim S50000x256 ![] bcast_S_S50000x256 (constant S_ .f32 0x7FC00000#32)) j q).trans (congrArg (fun t : EReal => Ideal.sqrt (t + eps)) hv)
  exact div_add_apply _ _ _ _ (ix2 j q) (bcCols bcast_S256_S1x256_1 bcast_S1x256_S50000x256_0_1 (weight V) j q) (centred_eq V hc j q) hstd
    (bcCols bcast_S256_S1x256_1 bcast_S1x256_S50000x256_0_1 (bias V) j q)

end

end Cert.GraphNorm

end
-- ==== Proof.KernelBlock.lean ====
/-
  What one step of the kernel stores: the block of a graph, read at a row and a column, is `kernelRow` of the graph's column.
-/
module

public import proofs.«01_k».proof.Proof.Column
public import proofs.«01_k».proof.Proof.Gen.KernelIdeal.Frame
public import Idealize.ShloMosaic.Lib.Pointwise

@[expose] public section

noncomputable section

namespace Cert.GraphNorm

open Idealize.ShloMosaic
open Cert.KernelIdeal Cert.KernelIdeal.Gen

/-- The named constant is 1/500. -/
theorem inv_n : (Named.named (F := Ideal) (φ := .f32) κ "inv_n" 0x3B03126F#32 : EReal) = ((1 / 500 : ℝ) : EReal) := rfl

/-- The stored block at row `i` and column `q`. -/
theorem block_eq (x : Vec Ideal S1x500x256 .f32) (ms w b : Vec Ideal S1x256 .f32) (i : Fin 500) (q : Fin 256) :
    (k0_pay1 (F := Ideal) x ms w b (ix3 (0 : Fin 1) i q) : EReal)
      = kernelRow (fun k => x (ix3 (0 : Fin 1) k q)) (w (ix2 (0 : Fin 1) q)) (b (ix2 (0 : Fin 1) q)) (ms (ix2 (0 : Fin 1) q)) i := by
  pointwise [k0_pay1]
  rw [inv_n, two_word]
  rfl

end Cert.GraphNorm

end
-- ==== Proof.KernelArray.lean ====
/-
  What the kernel's result array holds: step `g` writes the 500 rows of graph `g`, so the array holds `kernelRow` of each
  graph's column, and the result is that array read row by row.
-/
module

public import proofs.«01_k».proof.Proof.KernelBlock
public import proofs.«01_k».proof.Proof.Rows
public import Idealize.ShloMosaic.Lib.Pipeline.ValueKit
public import Idealize.ShloMosaic.Lib.Claim

@[expose] public section

set_option maxRecDepth 16384

noncomputable section

namespace Cert.GraphNorm

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The result array as a table of graphs, places and columns. -/
def table : S100x500x256.Idx → EReal := fun i =>
  kernelRow (fun k => m ((c.tc : Thread nD τ).loc main_arg0) (ix2 (rowOf (i 0) k) (i 2)))
    (m ((c.tc : Thread nD τ).loc main_arg2) (ix1 (i 2))) (m ((c.tc : Thread nD τ).loc main_arg3) (ix1 (i 2)))
    (m ((c.tc : Thread nD τ).loc main_arg4) (ix1 (i 2))) (i 1)

/-- Where the windows stand at step `t`: the features' and the result's at graph `t`, the others at the whole vector. -/
theorem window_index : ∀ t : Fin grid0.N,
    win0_0.index t = ![t.val, 0, 0] ∧ win0_4.index t = ![t.val, 0, 0] ∧ win0_1.index t = ![0, 0] ∧ win0_2.index t = ![0, 0] ∧ win0_3.index t = ![0, 0] := by
  decide +kernel

/-- The features as graphs of places: graph `g`, place `k` is row `k` of graph `g`. -/
theorem rows_apply (X : FVec Ideal S50000x256 .f32) (g : Fin 100) (k : Fin 500) (q : Fin 256) :
    (shapeCast S100x500x256 X shapeCasts_S50000x256_S100x500x256 (ix3 g k q) : EReal) = X (ix2 (rowOf g k) q) := by
  pointwise
  exact congrArg (fun r : Fin 50000 => X (ix2 r q)) (Fin.ext (by show g.val * 500 + k.val = 500 * g.val + k.val; omega))

/-- The features' block at step `t` is the rows of graph `t`. -/
theorem features_block (t : Fin cfg0.N) (k : Fin 500) (q : Fin 256) :
    (iblk m c 0 t (ix3 (0 : Fin 1) k q) : EReal) = m ((c.tc : Thread nD τ).loc main_arg0) (ix2 (rowOf t k) q) := by
  have e : V m c main_v0 = shapeCast S100x500x256 (m ((c.tc : Thread nD τ).loc main_arg0)) shapeCasts_S50000x256_S100x500x256 := by
    rfl
  have h : (iblk m c 0 t (ix3 (0 : Fin 1) k q) : EReal) = V m c main_v0 (ix3 (t : Fin 100) k q) := by
    blk_ext [iblk, window_index t]
  rw [h, e]
  exact rows_apply _ t k q

/-- The weight's block is the weight, whatever the step. -/
theorem weight_block (t : Fin cfg0.N) (q : Fin 256) :
    (iblk m c 1 t (ix2 (0 : Fin 1) q) : EReal) = m ((c.tc : Thread nD τ).loc main_arg2) (ix1 q) := by
  have e : V m c main_v1 = shapeCast S1x256 (m ((c.tc : Thread nD τ).loc main_arg2)) shapeCasts_S256_S1x256 := by
    rfl
  have h : (iblk m c 1 t (ix2 (0 : Fin 1) q) : EReal) = V m c main_v1 (ix2 (0 : Fin 1) q) := by
    blk_ext [iblk, window_index t]
  rw [h, e]
  pointwise

/-- The bias's block is the bias, whatever the step. -/
theorem bias_block (t : Fin cfg0.N) (q : Fin 256) :
    (iblk m c 2 t (ix2 (0 : Fin 1) q) : EReal) = m ((c.tc : Thread nD τ).loc main_arg3) (ix1 q) := by
  have e : V m c main_v2 = shapeCast S1x256 (m ((c.tc : Thread nD τ).loc main_arg3)) shapeCasts_S256_S1x256 := by
    rfl
  have h : (iblk m c 2 t (ix2 (0 : Fin 1) q) : EReal) = V m c main_v2 (ix2 (0 : Fin 1) q) := by
    blk_ext [iblk, window_index t]
  rw [h, e]
  pointwise

/-- The mean scale's block is the mean scale, whatever the step. -/
theorem meanScale_block (t : Fin cfg0.N) (q : Fin 256) :
    (iblk m c 3 t (ix2 (0 : Fin 1) q) : EReal) = m ((c.tc : Thread nD τ).loc main_arg4) (ix1 q) := by
  have e : V m c main_v3 = shapeCast S1x256 (m ((c.tc : Thread nD τ).loc main_arg4)) shapeCasts_S256_S1x256 := by
    rfl
  have h : (iblk m c 3 t (ix2 (0 : Fin 1) q) : EReal) = V m c main_v3 (ix2 (0 : Fin 1) q) := by
    blk_ext [iblk, window_index t]
  rw [h, e]
  pointwise

/-- The result's block at step `t` stands at graph `t`. -/
theorem result_block (t : Fin cfg0.N) (i : Fin 500) (q : Fin 256) :
    (((View.whole main_v4).slice (win0_4.rect t)).emb (ix3 (0 : Fin 1) i q) : S100x500x256.Idx) = ix3 (t : Fin 100) i q := by
  blk_ext [window_index t]

/-- After the last step the array holds the table. -/
theorem array_eq : (dats m 0 c).arrAt 4 cfg0.N = table m c := by
  refine (dats m 0 c).arrAt_eq_of_covers 4 _ (by decide +kernel) fun t hf y => ?_
  blk_simp
  rw [after0_4]
  frame_out
  obtain ⟨i, q, rfl⟩ : ∃ (i : Fin 500) (q : Fin 256), y = ix3 (0 : Fin 1) i q :=
    ⟨y 1, y 2, (eq_ix3 y).trans (congrArg (fun z : Fin 1 => ix3 z (y 1) (y 2)) (Subsingleton.elim _ _))⟩
  rw [result_block]
  refine (block_eq _ _ _ _ i q).trans ?_
  unfold table
  rw [weight_block, bias_block, meanScale_block]
  exact congrArg (fun f => kernelRow f _ _ _ i) (funext fun k => features_block m c t k q)

/-- The kernel's result: at row `j` and column `q`, `kernelRow` of the column of the row's graph at the row's place. -/
def kernelResult : FVec Ideal S50000x256 .f32 := fun i =>
  kernelRow (fun k => m ((c.tc : Thread nD τ).loc main_arg0) (ix2 (rowOf (graph (i 0)) k) (i 1)))
    (m ((c.tc : Thread nD τ).loc main_arg2) (ix1 (i 1))) (m ((c.tc : Thread nD τ).loc main_arg3) (ix1 (i 1)))
    (m ((c.tc : Thread nD τ).loc main_arg4) (ix1 (i 1))) (place (i 0))

/-- The table laid out row by row is the result. -/
theorem table_rows : shapeCast S50000x256 (table m c) shapeCasts_S100x500x256_S50000x256 = kernelResult m c := by
  funext i
  have h : ∀ T : FVec Ideal S100x500x256 .f32, shapeCast S50000x256 T shapeCasts_S100x500x256_S50000x256 i = T (ix3 (graph (i 0)) (place (i 0)) (i 1)) := by
    intro T
    obtain ⟨j, q, rfl⟩ : ∃ (j : Fin 50000) (q : Fin 256), i = ix2 j q := ⟨_, _, eq_ix2 i⟩
    pointwise
    rfl
  exact (h (table m c)).trans rfl

/-- After the run the result buffer is the array laid out row by row. -/
theorem tail_eq : Pipeline.afterTail₀ cfgs (dats m) 0 (V0 m) [hostOps1] c main_v5 = kernelResult m c := by
  have h4 : Pipeline.withArrays spec0 c (V0 m c) (fun w => (dats m 0 c).arrAt w cfg0.N) (Proc.devRef .tc main_v4) = table m c :=
    (Pipeline.withArrays_arr spec0 (by decide) c (V0 m c) (fun w => (dats m 0 c).arrAt w cfg0.N) 4).trans (array_eq m c)
  refine Eq.trans ?_ (table_rows m c)
  rw [← h4]
  rfl

/-- Every weakly fair execution of the kernel terminates with the result at `kernelResult` and the arguments as they were. -/
theorem kernel_run (ρ : Dev nD → PrngReg) :
    θ_run defs (onTc (τ := τ) (main (F := Ideal))) ⟨m, fun _ => 0, ρ⟩ fun r => ∀ c : Dev nD,
      r.2.mem ((c.tc : Thread nD τ).loc main_v5) = kernelResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  have hres : θ_run defs (onTc (τ := τ) (main (F := Ideal))) ⟨m, fun _ => 0, ρ⟩ fun r => ∀ c : Dev nD,
      r.2.mem ((c.tc : Thread nD τ).loc main_v5) = kernelResult m c :=
    (θ_run defs _ _).mono
      (fun _ h c => ((h c).2 main_v5 (Pipeline.mem_restRefs_of main_v5 (by decide) (by decide))).trans (tail_eq m c)) (run_main m ρ)
  exact (θ_run defs _ _).mono (fun _ h c => ⟨h.1 c, h.2 c⟩) (θ_run_and hres (unchanged m ρ))

end Cert.GraphNorm

end
-- ==== Proof.Equation.lean ====
/-
  The equation: where the precondition holds, the reference's result is the kernel's.
-/
module

public import proofs.«01_k».proof.Defs
public import proofs.«01_k».proof.Proof.Precondition
public import proofs.«01_k».proof.Proof.RefValue
public import proofs.«01_k».proof.Proof.KernelArray
public import proofs.«01_k».proof.Proof.Gen.ReferenceIdeal.Run
public import Idealize.ShloMosaic.Lib.Quiescent

@[expose] public section

noncomputable section

namespace Cert.GraphNorm

open Idealize.ShloMosaic Idealize.SL.Sem Idealize.ShloMosaic.StableHlo

/-- The reference row of real features, weight and mean scale is the kernel row. -/
theorem row_of_reals (x : Fin 500 → EReal) (w b ms : EReal) (hx : ∀ k, ∃ r : ℝ, x k = r) (hw : ∃ r : ℝ, w = r) (hms : ∃ r : ℝ, ms = r)
    (i : Fin 500) : referenceRow x w b ms i = kernelRow x w b ms i := by
  choose r hr using hx
  obtain ⟨w', rfl⟩ := hw
  obtain ⟨ms', rfl⟩ := hms
  obtain rfl : x = fun k => (r k : EReal) := funext hr
  exact (rows_eq r w' ms' b i).symm

/-- Reference rows of equal arguments are equal. -/
theorem row_congr {x x' : Fin 500 → EReal} {w w' b b' ms ms' : EReal} (hx : x = x') (hw : w = w') (hb : b = b') (hms : ms = ms') (i : Fin 500) :
    referenceRow x w b ms i = referenceRow x' w' b' ms' i := by
  rw [hx, hw, hb, hms]

/-- Every weakly fair execution of the reference leaves the arguments as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
        ∧ r.2.sem = fun _ => 0 :=
  (θ_run _ _ _).mono (fun r h => ⟨fun c => (h c).2, sem_eq_zero_of_no_sems rfl r.2⟩) (Cert.ReferenceIdeal.Value.run (F := Ideal) m g)

/-- From arguments that agree and meet the precondition, the kernel and the reference end with one result. -/
theorem algebraic [hPre : Cert.Pre_pre.Facts] : Cert.algebraic_KernelIdeal_ReferenceIdeal_pre_pre := by
  intro m g m' g' hpre hag
  refine ⟨fun c => kernelResult m c, kernel_run m g, (θ_run _ _ _).mono (fun _ h c => ⟨(h c).1.trans ?_, (h c).2⟩) (Cert.ReferenceIdeal.Value.run m' g')⟩
  obtain ⟨e0, e1, e2, e3, e4⟩ := hag c
  obtain ⟨hc, h0, h2, h4⟩ := pre_read _ _ _ _ _ (hpre c)
  funext i
  obtain ⟨j, q, rfl⟩ : ∃ (j : Fin 50000) (q : Fin 256), i = ValueIdx.ix2 j q := ⟨i 0, i 1, ValueIdx.eq_ix2 i⟩
  refine (result_eq (launchContents m' c) (fun i => (congrFun e1 i).trans (hc i)) j q).trans ?_
  refine Eq.trans ?_ (row_of_reals _ _ _ _ (fun k => h0 _) (h2 _) (h4 _) (place j))
  exact row_congr (funext fun k => congrFun e0 _) (congrFun e2 _) (congrFun e3 _) (congrFun e4 _) (place j)

end Cert.GraphNorm
-- ==== Proof.lean ====
/-
  The proof of `Cert.Claim`: the frames of the three programs, the named constant, and the equation of the kernel and the reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.GraphNorm.pre_facts,
    fun m g _ => Cert.Kernel.Gen.frame m g, fun m g _ => Cert.KernelIdeal.Gen.frame m g, fun m g _ => Cert.KernelIdeal.Gen.frame m g,
    fun m g _ => Cert.GraphNorm.reference_frame m g, fun m g _ => Cert.GraphNorm.reference_frame m g,
    IdealRules.named_const.statement Cert.KernelIdeal.κ "inv_n" .f32 0x3B03126F#32 ((1 / 500 : ℝ) : EReal) rfl,
    Cert.GraphNorm.algebraic (hPre := Cert.GraphNorm.pre_facts)⟩

end Cert.Proof

end
